-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_feats [hPre_finite_feats : Cert.Pre_finite_feats.Facts] (m : (ℓ : Loc Cert.KernelIdeal.nD Cert.KernelIdeal.τ Cert.KernelIdeal.sig) → Buf (Elt Ideal) ℓ) : Prop :=
  ∀ c : Dev Cert.KernelIdeal.nD,
    (Cert.Pre_finite_feats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_feats [hPre_finite_feats : Cert.Pre_finite_feats.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_feats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_feats [hKernelIdeal : Cert.KernelIdeal.Facts] [hPre_finite_feats : Cert.Pre_finite_feats.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_feats m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_feats [hReferenceIdeal : Cert.ReferenceIdeal.Facts] [hPre_finite_feats : Cert.Pre_finite_feats.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_feats m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_feats [hKernelIdeal : Cert.KernelIdeal.Facts] [hReferenceIdeal : Cert.ReferenceIdeal.Facts] [hPre_finite_feats : Cert.Pre_finite_feats.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_feats m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_feats : Cert.Pre_finite_feats.Facts),
    quiescent_Kernel (hKernel := hKernel)
    ∧ quiescent_KernelIdeal (hKernelIdeal := hKernelIdeal)
    ∧ quiescent_KernelIdeal_pre_finite_feats (hKernelIdeal := hKernelIdeal) (hPre_finite_feats := hPre_finite_feats)
    ∧ quiescent_ReferenceIdeal (hReferenceIdeal := hReferenceIdeal)
    ∧ quiescent_ReferenceIdeal_pre_finite_feats (hReferenceIdeal := hReferenceIdeal) (hPre_finite_feats := hPre_finite_feats)
    ∧ preserves_Kernel_KernelIdeal
    ∧ algebraic_KernelIdeal_ReferenceIdeal_pre_finite_feats (hKernelIdeal := hKernelIdeal) (hReferenceIdeal := hReferenceIdeal) (hPre_finite_feats := hPre_finite_feats)
-- ==== Pre_finite_feats.lean ====
abbrev S16x32768x512 : Shape := ⟨3, ![16, 32768, 512]⟩
abbrev S16x512 : Shape := ⟨2, ![16, 512]⟩
abbrev S_ : Shape := ⟨0, ![]⟩

class Facts : Prop where
  bcast_S_S16x32768x512 : S_.BroadcastsInDim S16x32768x512 (![] : Fin 0 → Fin S16x32768x512.rank)
  reducesTo_S16x32768x512_S_d0_1_2 : S16x32768x512.ReducesTo [0, 1, 2] S_
  h_S_ : 0 < S_.numel

variable [Facts]

def fn {F : FTy → Type} [FloatOps F] (main_arg0 : FVec F S16x32768x512 .f32) (main_arg1 : FVec F S16x512 .f32) : IVec S_ 1 :=
  let main_v0 : FVec F S16x32768x512 .f32 := Host.absf main_arg0
  let main_cst : FVec F S_ .f32 := constant S_ .f32 0x7F800000#32
  let main_v1 : FVec F S16x32768x512 .f32 := broadcastInDim S16x32768x512 ![] bcast_S_S16x32768x512 main_cst
  let main_v2 : IVec S16x32768x512 1 := cmpf .olt main_v0 main_v1
  let main_c : IVec S_ 1 := constantI S_ 1 1#1
  let main_v3 : IVec S_ 1 := (fun x v => Host.reduce IntOp.andi x v reducesTo_S16x32768x512_S_d0_1_2 h_S_) main_v2 main_c
  main_v3
-- ==== Kernel.lean ====
abbrev S16x32768x512 : Shape := ⟨3, ![16, 32768, 512]⟩
abbrev S16x512 : Shape := ⟨2, ![16, 512]⟩
abbrev S1x1x1 : Shape := ⟨3, ![1, 1, 1]⟩
abbrev S8x512x512 : Shape := ⟨3, ![8, 512, 512]⟩
abbrev S16 : Shape := ⟨1, ![16]⟩
abbrev S16x1 : Shape := ⟨2, ![16, 1]⟩
abbrev S8x512 : Shape := ⟨2, ![8, 512]⟩
abbrev S8 : Shape := ⟨1, ![8]⟩
abbrev S8x1 : Shape := ⟨2, ![8, 1]⟩
abbrev S8x1x512 : Shape := ⟨3, ![8, 1, 512]⟩
abbrev S8x512x1 : Shape := ⟨3, ![8, 512, 1]⟩
abbrev S8x1x1 : Shape := ⟨3, ![8, 1, 1]⟩
abbrev S1x8x512x1 : Shape := ⟨4, ![1, 8, 512, 1]⟩
abbrev S1 : Shape := ⟨1, ![1]⟩
abbrev S1x1x1x1 : Shape := ⟨4, ![1, 1, 1, 1]⟩
abbrev S_ : Shape := ⟨0, ![]⟩

abbrev nBuf : Space → Nat
  | .hbm => 7
  | .vmem => 5
  | .smem => 1
  | _ => 0

abbrev bufTy : (tb : Table) → Fin (tcTables nBuf tb) → BufTy
  | .hbm, ⟨0, _⟩ => ⟨S16x32768x512, .f32⟩
  | .hbm, ⟨1, _⟩ => ⟨S16x512, .f32⟩
  | .hbm, ⟨2, _⟩ => ⟨S1x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S16x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S8x512x512, .f32⟩
  | .local _ .smem, ⟨0, _⟩ => ⟨S1x1x1, .f32⟩
  | _, _ => ⟨S16x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 64], ![false, false]⟩

def k0_cond1 (i : grid0.Coords) : BitVec 1 :=
  let arg1 : BitVec 32 := BitVec.ofNat 32 (i 1).val
  let c0_i32 : BitVec 32 := 0#32
  let v58 : BitVec 1 := Scalar.cmpi .eq arg1 c0_i32
  let v59 : BitVec 32 := Scalar.extui v58
  let c0_i32_20 : BitVec 32 := 0#32
  let v60 : BitVec 1 := Scalar.cmpi .ne v59 c0_i32_20
  v60

def k0_cond2 (i : grid0.Coords) : BitVec 1 :=
  let arg1 : BitVec 32 := BitVec.ofNat 32 (i 1).val
  let c0_i32_21 : BitVec 32 := 0#32
  let v61 : BitVec 1 := Scalar.cmpi .ne arg1 c0_i32_21
  let v62 : BitVec 32 := Scalar.extui v61
  let c0_i32_22 : BitVec 32 := 0#32
  let v63 : BitVec 1 := Scalar.cmpi .ne v62 c0_i32_22
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== ReferenceIdeal.lean ====
abbrev S16x32768x512 : Shape := ⟨3, ![16, 32768, 512]⟩
abbrev S16x512 : Shape := ⟨2, ![16, 512]⟩
abbrev S32768x16x512 : Shape := ⟨3, ![32768, 16, 512]⟩
abbrev S_ : Shape := ⟨0, ![]⟩
abbrev S16 : Shape := ⟨1, ![16]⟩
abbrev S16x1 : Shape := ⟨2, ![16, 1]⟩
abbrev S32768x16 : Shape := ⟨2, ![32768, 16]⟩
abbrev S16x32768 : Shape := ⟨2, ![16, 32768]⟩
abbrev S1x16 : Shape := ⟨2, ![1, 16]⟩
abbrev S32768 : Shape := ⟨1, ![32768]⟩

abbrev nBuf : Space → Nat
  | .hbm => 45
  | .vmem => 0
  | .smem => 0
  | _ => 0

abbrev bufTy : (tb : Table) → Fin (tcTables nBuf tb) → BufTy
  | .hbm, ⟨0, _⟩ => ⟨S16x32768x512, .f32⟩
  | .hbm, ⟨1, _⟩ => ⟨S16x512, .f32⟩
  | .hbm, ⟨2, _⟩ => ⟨S32768x16x512, .f32⟩
  | .hbm, ⟨3, _⟩ => ⟨S16x512, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x512, .f32⟩
  | .hbm, ⟨12, _⟩ => ⟨S16x512, .f32⟩
  | .hbm, ⟨13, _⟩ => ⟨S32768x16x512, .f32⟩
  | .hbm, ⟨14, _⟩ => ⟨S_, .f32⟩
  | .hbm, ⟨15, _⟩ => ⟨S32768x16, .f32⟩
  | .hbm, ⟨16, _⟩ => ⟨S16x512, .f32⟩
  | .hbm, ⟨17, _⟩ => ⟨S_, .f32⟩
  | .hbm, ⟨18, _⟩ => ⟨S16, .f32⟩
  | .hbm, ⟨19, _⟩ => ⟨S16x32768, .f32⟩
  | .hbm, ⟨20, _⟩ => ⟨S32768x16, .f32⟩
  | .hbm, ⟨21, _⟩ => ⟨S1x16, .f32⟩
  | .hbm, ⟨22, _⟩ => ⟨S32768x16, .f32⟩
  | .hbm, ⟨23, _⟩ => ⟨S32768x16, .f32⟩
  | .hbm, ⟨24, _⟩ => ⟨S_, .f32⟩
  | .hbm, ⟨25, _⟩ => ⟨S32768x16, .f32⟩
  | .hbm, ⟨26, _⟩ => ⟨S32768x16, .f32⟩
  | .hbm, ⟨27, _⟩ => ⟨S32768x16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32768x16, .f32⟩
  | .hbm, ⟨32, _⟩ => ⟨S32768x16, .f32⟩
  | .hbm, ⟨33, _⟩ => ⟨S_, .f32⟩
  | .hbm, ⟨34, _⟩ => ⟨S32768x16, .f32⟩
  | .hbm, ⟨35, _⟩ => ⟨S32768x16, .f32⟩
  | .hbm, ⟨36, _⟩ => ⟨S_, .f32⟩
  | .hbm, ⟨37, _⟩ => ⟨S32768, .f32⟩
  | .hbm, ⟨38, _⟩ => ⟨S_, .f32⟩
  | .hbm, ⟨39, _⟩ => ⟨S32768, .f32⟩
  | .hbm, ⟨40, _⟩ => ⟨S32768, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S16x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.Loss.Math.lean ====
/-
  The mathematics of the centre loss over the extended reals: no program occurs here.

  A row of features `x` and a row of centres `u` have a squared distance, which one text writes
  `∑ x·(x − 2u) + ∑ u²` and the other `(∑ x² + ∑ u²) − 2 ∑ u·x`. The two agree where every entry is a real number
  (`crossed_eq_expanded`). A centre row divided by its guarded length is always real (`normalized_real`), so only the
  features have to be assumed finite. A distance clipped between the two bounds is always real (`clip_real`), so the
  mean of the clipped distances may be taken in one division or in two (`mean_eq`), and summed in blocks (`sum_blocks`).
-/
module

public import Idealize.ShloMosaic.PureOps.Ideal
public import Mathlib.Algebra.BigOperators.Fin
public import Mathlib.Algebra.BigOperators.Ring.Finset

@[expose] public section

noncomputable section

namespace Cert.Loss

open Idealize.ShloMosaic

/-! ## The constants -/

/-- The lower clipping bound, the float32 nearest to 1e-12; it also guards a centre's length from below. -/
def tiny : EReal := Ideal.ofBits .f32 0x2B8CBCCC#32

/-- The upper clipping bound, the float32 nearest to 1e12. -/
def huge : EReal := Ideal.ofBits .f32 0x5368D4A5#32

/-- The factor of the cross term. -/
def two : EReal := Ideal.ofBits .f32 0x40000000#32

/-- The factor of the cross term is the number 2. -/
theorem two_eq : two = ((2 : ℝ) : EReal) := by
  unfold two
  simp [Ideal.ofBits, Ideal.ieee, -EReal.coe_mul]
  norm_num

/-- The number of groups, 16. -/
theorem sixteen_eq : Ideal.ofBits .f32 0x41800000#32 = ((16 : ℝ) : EReal) := by
  simp [Ideal.ofBits, Ideal.ieee, -EReal.coe_mul]
  norm_num

/-- The number of feature rows in a group, 32768. -/
theorem rows_eq : Ideal.ofBits .f32 0x47000000#32 = ((32768 : ℝ) : EReal) := by
  simp [Ideal.ofBits, Ideal.ieee, -EReal.coe_mul]
  norm_num

/-- The number of distances in all, 16 · 32768. -/
theorem count_eq : Ideal.ofBits .f32 0x49000000#32 = ((524288 : ℝ) : EReal) := by
  simp [Ideal.ofBits, Ideal.ieee, -EReal.coe_mul]
  norm_num

/-- The lower bound is a positive real number. -/
theorem tiny_eq : tiny = (((9223372 : ℝ) * (2 : ℝ) ^ (-63 : ℤ) : ℝ) : EReal) := by
  unfold tiny
  simp [Ideal.ofBits, Ideal.ieee, -EReal.coe_mul]

/-- The upper bound is a real number. -/
theorem huge_eq : huge = (((15258789 : ℝ) * (2 : ℝ) ^ (16 : ℤ) : ℝ) : EReal) := by
  unfold huge
  simp [Ideal.ofBits, Ideal.ieee, -EReal.coe_mul]

/-- The bounds are in order. -/
theorem tiny_le_huge : tiny ≤ huge := by
  rw [tiny_eq, huge_eq, EReal.coe_le_coe_iff]
  norm_num

/-! ## Finite values -/

/-- An extended real that is a real number. -/
def IsReal (z : EReal) : Prop := ∃ r : ℝ, z = r

/-- What is neither infinity is a real number. -/
theorem isReal_of_ne {z : EReal} (ht : z ≠ ⊤) (hb : z ≠ ⊥) : IsReal z :=
  ⟨z.toReal, (EReal.coe_toReal ht hb).symm⟩

/-- A family of real numbers is the image of a real family. -/
theorem lift_family {ι : Type*} {f : ι → EReal} (h : ∀ i, IsReal (f i)) : ∃ r : ι → ℝ, f = fun i => (r i : EReal) :=
  ⟨fun i => (h i).choose, funext fun i => (h i).choose_spec⟩

/-- The sum of a real family, taken over the extended reals, is the sum taken over the reals. -/
theorem coe_sum {ι : Type*} [Fintype ι] (r : ι → ℝ) : ∑ i, ((r i : ℝ) : EReal) = ((∑ i, r i : ℝ) : EReal) := by
  classical
  induction (Finset.univ : Finset ι) using Finset.induction_on with
  | empty => simp
  | insert a s ha ih => rw [Finset.sum_insert ha, Finset.sum_insert ha, ih, EReal.coe_add]

/-! ## Clipping -/

/-- A value clipped between the two bounds. -/
def clip (z : EReal) : EReal := min huge (max tiny z)

/-- A clipped value is a real number. -/
theorem clip_real (z : EReal) : IsReal (clip z) := by
  refine isReal_of_ne (ne_of_lt ?_) (ne_of_gt ?_)
  · exact lt_of_le_of_lt (min_le_left _ _) (by rw [huge_eq]; exact EReal.coe_lt_top _)
  · exact lt_of_lt_of_le (by rw [tiny_eq]; exact EReal.bot_lt_coe _) (le_min tiny_le_huge (le_max_left _ _))

/-! ## A normalized centre -/

/-- Entry `d` of a centre row divided by the row's length, the length guarded from below. -/
def normalized (u : Fin 512 → EReal) (d : Fin 512) : EReal :=
  Ideal.div (u d) (max (Ideal.sqrt (∑ e, u e * u e)) tiny)

/-- A square is not negative. -/
theorem square_nonneg (z : EReal) : 0 ≤ z * z := by
  induction z using EReal.rec with
  | bot => rw [EReal.bot_mul_bot]; exact le_top
  | coe r => rw [← EReal.coe_mul, EReal.coe_nonneg]; exact mul_self_nonneg r
  | top => rw [EReal.top_mul_top]; exact le_top

/-- A row with an infinite entry has an infinite sum of squares. -/
theorem squares_top {u : Fin 512 → EReal} {d : Fin 512} (h : ¬ IsReal (u d)) : ∑ e, u e * u e = ⊤ := by
  have hd : u d * u d = ⊤ := by
    by_cases ht : u d = ⊤
    · rw [ht, EReal.top_mul_top]
    · by_cases hb : u d = ⊥
      · rw [hb, EReal.bot_mul_bot]
      · exact absurd (isReal_of_ne ht hb) h
  refine top_le_iff.1 ?_
  rw [← hd]
  exact Finset.single_le_sum (f := fun e => u e * u e) (fun e _ => square_nonneg (u e)) (Finset.mem_univ d)

/-- A normalized centre is a real number, whatever the row: where an entry is infinite so is the length, and dividing
    by it gives zero. -/
theorem normalized_real (u : Fin 512 → EReal) (d : Fin 512) : IsReal (normalized u d) := by
  unfold normalized
  by_cases h : ∀ e, IsReal (u e)
  · obtain ⟨r, rfl⟩ := lift_family h
    simp only [← EReal.coe_mul]
    have hs : ¬ (∑ e, r e * r e) < 0 := not_lt.2 (Finset.sum_nonneg fun e _ => mul_self_nonneg (r e))
    rw [coe_sum, show Ideal.sqrt ((∑ e, r e * r e : ℝ) : EReal) = ((Real.sqrt (∑ e, r e * r e) : ℝ) : EReal) from if_neg hs,
      tiny_eq, ← EReal.coe_strictMono.monotone.map_max, Ideal.div_coe]
    · exact ⟨_, (EReal.coe_mul _ _).symm⟩
    · refine ne_of_gt (lt_of_lt_of_le ?_ (le_max_right _ _))
      positivity
  · obtain ⟨e, he⟩ := not_forall.1 h
    rw [squares_top he, show Ideal.sqrt ⊤ = ⊤ from rfl, max_eq_left le_top, Ideal.div, if_neg EReal.top_ne_zero,
      EReal.inv_top, mul_zero]
    exact ⟨0, rfl⟩

/-! ## The squared distance -/

/-- The squared distance with the cross term taken into the product. -/
def crossed (x u : Fin 512 → EReal) : EReal := ∑ d, x d * (x d - two * u d) + ∑ d, u d * u d

/-- The squared distance with the cross term subtracted last. -/
def expanded (x u : Fin 512 → EReal) : EReal := (∑ d, x d * x d + ∑ d, u d * u d) - two * ∑ d, u d * x d

/-- The two writings of the squared distance agree on real rows. -/
theorem crossed_eq_expanded {x u : Fin 512 → EReal} (hx : ∀ d, IsReal (x d)) (hu : ∀ d, IsReal (u d)) :
    crossed x u = expanded x u := by
  obtain ⟨x, rfl⟩ := lift_family hx
  obtain ⟨u, rfl⟩ := lift_family hu
  unfold crossed expanded
  rw [two_eq]
  simp only [← EReal.coe_mul, ← EReal.coe_sub, coe_sum, ← EReal.coe_add]
  refine congrArg _ ?_
  have e : ∑ d, x d * (x d - 2 * u d) = ∑ d, x d * x d - 2 * ∑ d, u d * x d := by
    rw [Finset.mul_sum, ← Finset.sum_sub_distrib]
    exact Finset.sum_congr rfl fun d _ => by ring
  rw [e]
  ring

/-! ## The mean -/

/-- Row `r` of the block of 512 feature rows numbered `t`. -/
def blockRow (t : Fin 64) (r : Fin 512) : Fin 32768 := ⟨512 * t.val + r.val, by omega⟩

/-- A sum over all the feature rows, block by block. -/
theorem sum_rows {M : Type*} [AddCommMonoid M] (f : Fin 32768 → M) : ∑ b, f b = ∑ t, ∑ r, f (blockRow t r) := by
  rw [← Fintype.sum_prod_type', ← (finProdFinEquiv (m := 64) (n := 512)).sum_comp f]
  refine Finset.sum_congr rfl fun p _ => congrArg f (Fin.ext ?_)
  simp [blockRow, finProdFinEquiv]
  omega

/-- A group of the first eight. -/
def low (g : Fin 8) : Fin 16 := ⟨g.val, by omega⟩

/-- A group of the last eight. -/
def high (g : Fin 8) : Fin 16 := ⟨8 + g.val, by omega⟩

/-- A sum over the sixteen groups, the first eight and then the last eight. -/
theorem sum_groups {M : Type*} [AddCommMonoid M] (f : Fin 16 → M) : ∑ g, f g = ∑ g, f (low g) + ∑ g, f (high g) :=
  Fin.sum_univ_add (a := 8) (b := 8) f

/-- The share of block `t` in the sum of a table over groups and rows: eight groups, then the other eight. -/
def share (v : Fin 16 → Fin 32768 → EReal) (t : Fin 64) : EReal :=
  ∑ g, ∑ r, v (low g) (blockRow t r) + ∑ g, ∑ r, v (high g) (blockRow t r)

/-- The blocks' shares sum to the whole table's sum, taken row by row. -/
theorem sum_blocks (v : Fin 16 → Fin 32768 → EReal) : ∑ t, share v t = ∑ b, ∑ g, v g b := by
  rw [sum_rows]
  refine Finset.sum_congr rfl fun t _ => ?_
  simp only [sum_groups (M := EReal), Finset.sum_add_distrib]
  exact congrArg₂ _ Finset.sum_comm Finset.sum_comm

/-- The mean of a table of real numbers in one division is the mean over the rows of the rows' means. -/
theorem mean_eq {v : Fin 16 → Fin 32768 → EReal} (hv : ∀ g b, IsReal (v g b)) :
    Ideal.div (∑ t, share v t) (Ideal.ofBits .f32 0x49000000#32)
      = Ideal.div (∑ b, Ideal.div (∑ g, v g b) (Ideal.ofBits .f32 0x41800000#32)) (Ideal.ofBits .f32 0x47000000#32) := by
  obtain ⟨r, hr⟩ := lift_family (f := fun p : Fin 16 × Fin 32768 => v p.1 p.2) fun p => hv p.1 p.2
  have hv : v = fun g b => ((r (g, b) : ℝ) : EReal) := funext fun g => funext fun b => congrFun hr (g, b)
  rw [sum_blocks, count_eq, sixteen_eq, rows_eq, hv, Ideal.div_coe (by norm_num), Ideal.div_coe (by norm_num)]
  simp only [Ideal.div_coe (show (16 : ℝ) ≠ 0 by norm_num), coe_sum, ← EReal.coe_mul]
  refine congrArg _ ?_
  rw [← Finset.sum_mul]
  ring

end Cert.Loss

end
-- ==== Proof.Loss.Table.lean ====
/-
  The table both programs average: for each group and each of its feature rows, the clipped squared distance between the
  row and the group's normalized centre.
-/
module

public import proofs.«01_k».proof.Proof.Loss.Math
public import Idealize.ShloMosaic.Lib.Pointwise

@[expose] public section

noncomputable section

namespace Cert.Loss

open Idealize.ShloMosaic

/-- The features: 16 groups of 32768 rows of 512 entries. -/
abbrev Features : Type := FVec Ideal ⟨3, ![16, 32768, 512]⟩ .f32

/-- The centres: a row of 512 entries for each of the 16 groups. -/
abbrev Centres : Type := FVec Ideal ⟨2, ![16, 512]⟩ .f32

/-- The clipped squared distance between row `b` of group `g` and the group's normalized centre. -/
def table (x : Features) (u : Centres) (g : Fin 16) (b : Fin 32768) : EReal :=
  clip (crossed (fun d => x (ix3 g b d)) (normalized fun d => u (ix2 g d)))

/-- Every entry of the table is a real number. -/
theorem table_real (x : Features) (u : Centres) (g : Fin 16) (b : Fin 32768) : IsReal (table x u g b) := clip_real _

/-- The loss: the table's sum, block by block, over the number of its entries. -/
def loss (x : Features) (u : Centres) : EReal :=
  Ideal.div (∑ t, share (table x u) t) (Ideal.ofBits .f32 0x49000000#32)

end Cert.Loss

end
-- ==== Proof.Loss.Block.lean ====
/-
  One block of the kernel: what the body stores in its one-entry output at a grid point, as a function of the centres
  and of the two feature blocks it reads (`out_first`, `out_next`), and that value as mathematics: two sums of clipped
  squared distances, one to the first eight normalized centres and one to the last eight (`first_half`, `second_half`).
-/
module

public import proofs.«01_k».proof.Proof.Loss.Math
public import proofs.«01_k».proof.Proof.Gen.KernelIdeal.Frame
public import Idealize.ShloMosaic.Lib.Pipeline.Value
public import Idealize.ShloMosaic.Lib.Pointwise

@[expose] public section

set_option maxRecDepth 16384

noncomputable section

namespace Cert.Loss

open Idealize.ShloMosaic Idealize.ShloMosaic.TcCoe
open Cert.KernelIdeal Cert.KernelIdeal.Gen

/-! ## The body's stored value, in the body's own operations -/

section Store

variable {F : FTy → Type} [FloatOps F]

/-- Two zero offsets, as a constant family. -/
theorem zeros2 : (![0, 0] : Fin 2 → ℕ) = fun _ => 0 := by decide

/-- Three zero offsets, as a constant family. -/
theorem zeros3 : (![0, 0, 0] : Fin 3 → ℕ) = fun _ => 0 := by decide

/-- The one-entry array has one index. -/
theorem unit_index (i j : S1x1x1.Idx) : i = j := by
  funext a
  fin_cases a <;> exact Subsingleton.elim (α := Fin 1) _ _

/-- At the first point the body leaves the block's share in the output. -/
theorem out_first (c : Dev nD) (i : grid0.Coords) (arg2 : Memref sig .tc .vmem S16x512 .f32) (harg2 : arg2.IsWhole)
    (arg3 : Memref sig .tc .vmem S8x512x512 .f32) (harg3 : arg3.IsWhole) (arg4 : Memref sig .tc .vmem S8x512x512 .f32)
    (harg4 : arg4.IsWhole) (arg5 : Memref sig .tc .smem S1x1x1 .f32) (harg5 : arg5.IsWhole) (hc0 : cond0_0 i)
    (hc1 : ¬cond0_1 i) (x0 : Vec F S16x512 .f32) (x1 x2 : Vec F S8x512x512 .f32) :
    out0_A_3 c i arg2 harg2 arg3 harg3 arg4 harg4 arg5 harg5 hc0 hc1 x0 x1 x2
      = fun _ => k0_pay1 (k0_pay4 x0 x1) x2 (k0_pay6 x0) (k0_pay7 x0) := by
  unfold out0_A_3
  rw [View.read_writes_eq_canon _ _ _ (cover0_A_3 c i arg2 harg2 arg3 harg3 arg4 harg4 arg5 harg5 hc0 hc1 x0 x1 x2)]
  unfold kernelRun0_A
  dsimp only
  sl_unfold_words
  rw [View.canon_unit_zero (S := S1x1x1) zeros3]
  simp only [View.readAt_eq_ld, harg2.read_unread, harg3.read_unread, harg4.read_unread,
    View.ld_unit_zero (S := S16x512) zeros2, View.ld_unit_zero (S := S8x512x512) zeros3]
  rfl

/-- At a later point the body adds the block's share to what the point before left in the output. -/
theorem out_next (c : Dev nD) (i : grid0.Coords) (arg2 : Memref sig .tc .vmem S16x512 .f32) (harg2 : arg2.IsWhole)
    (arg3 : Memref sig .tc .vmem S8x512x512 .f32) (harg3 : arg3.IsWhole) (arg4 : Memref sig .tc .vmem S8x512x512 .f32)
    (harg4 : arg4.IsWhole) (arg5 : Memref sig .tc .smem S1x1x1 .f32) (harg5 : arg5.IsWhole) (hc0 : ¬cond0_0 i)
    (hc1 : cond0_1 i) (x0 : Vec F S16x512 .f32) (x1 x2 : Vec F S8x512x512 .f32) (xo : Vec F S1x1x1 .f32) :
    out0_B_3 c i arg2 harg2 arg3 harg3 arg4 harg4 arg5 harg5 hc0 hc1 x0 x1 x2 xo
      = fun j => k0_pay2 (k0_pay4 x0 x1) x2 (k0_pay6 x0) (k0_pay7 x0) (xo j) := by
  unfold out0_B_3
  rw [View.read_writes_eq_canon _ _ _ (cover0_B_3 c i arg2 harg2 arg3 harg3 arg4 harg4 arg5 harg5 hc0 hc1 x0 x1 x2 xo)]
  unfold kernelRun0_B
  dsimp only
  sl_unfold_words
  rw [View.canon_unit_zero (S := S1x1x1) zeros3]
  simp only [View.readAt_eq_ld, harg2.read_unread, harg3.read_unread, harg4.read_unread, harg5.read_unread,
    View.ld_unit_zero (S := S16x512) zeros2, View.ld_unit_zero (S := S8x512x512) zeros3,
    View.ld_unit_zero (S := S1x1x1) zeros3]
  exact funext fun j => congrArg (fun j' => k0_pay2 _ _ _ _ (xo j')) (unit_index _ j)

end Store

/-! ## The share of a block, as mathematics -/

/-- An index of an 8 × 512 column is named by its first two coordinates. -/
def pairEquiv : Fin 8 × Fin 512 ≃ S8x512x1.Idx where
  toFun p := ix3 p.1 p.2 0
  invFun i := (i 0, i 1)
  left_inv _ := rfl
  right_inv i := by
    funext a
    fin_cases a
    · rfl
    · rfl
    · exact (Subsingleton.elim (α := Fin 1) _ _)

/-- The sum of all the entries of an 8 × 512 column, group by group. -/
theorem total_eq (y : FVec Ideal S8x512x1 .f32) (j : S1.Idx) :
    Ideal.reduceAdd reduces_S1x8x512x1_S1 (shapeCast S1x8x512x1 y shapeCasts_S8x512x1_S1x8x512x1) j
      = ∑ g, ∑ r, y (ix3 g r 0) := by
  rw [Ideal.reduceAdd_total _ (by decide)]
  refine ((Shape.reshapeEquiv shapeCasts_S8x512x1_S1x8x512x1).sum_comp y).trans ?_
  rw [← pairEquiv.sum_comp, Fintype.sum_prod_type]
  rfl

/-- The body's centres are the normalized centres. -/
theorem centres_apply (v0 : Vec Ideal S16x512 .f32) (g : Fin 16) (d : Fin 512) :
    k0_pay3 (F := Ideal) v0 (ix2 g d) = normalized (fun e => v0 (ix2 g e)) d := by
  pointwise [k0_pay3]
  rfl

/-- The clipped squared distance between row `r` of group `h` of a block and the normalized centre of group `g`. -/
def blockDistance (v0 : Vec Ideal S16x512 .f32) (x : Vec Ideal S8x512x512 .f32) (g : Fin 16) (h : Fin 8) (r : Fin 512) :
    EReal :=
  clip (crossed (fun d => x (ix3 h r d)) (normalized fun d => v0 (ix2 g d)))

/-- The first half's sum: the block's groups against the first eight centres. -/
theorem first_half (v0 : Vec Ideal S16x512 .f32) (x : Vec Ideal S8x512x512 .f32) :
    k0_pay4 (F := Ideal) v0 x = ∑ g, ∑ r, blockDistance v0 x (low g) g r := by
  have hu := centres_apply v0
  unfold k0_pay4
  generalize k0_pay3 v0 = u at hu ⊢
  pointwise
  rw [total_eq]
  pointwise
  simp only [hu]
  rfl

/-- The second half's sum, the block's groups against the last eight centres, added to `z`. -/
theorem second_half (z : Ideal .f32) (v0 : Vec Ideal S16x512 .f32) (x : Vec Ideal S8x512x512 .f32) :
    k0_pay1 (F := Ideal) z x (k0_pay6 v0) (k0_pay7 v0) = z + ∑ g, ∑ r, blockDistance v0 x (high g) g r := by
  have hu := centres_apply v0
  unfold k0_pay1 k0_pay6 k0_pay7 k0_pay5
  generalize k0_pay3 v0 = u at hu ⊢
  pointwise
  rw [total_eq]
  pointwise
  simp only [hu]
  rfl

end Cert.Loss

end
-- ==== Proof.Loss.KernelRun.lean ====
/-
  The idealized kernel's run, with its value. The windows' blocks are read off the arguments (`block0`, `block1`,
  `block2`); the output after a point is the sum of the shares so far (`outs_eq`); the array after the last point is the
  whole sum (`array_eq`); the lines after the kernel make it the loss (`result_eq`).
-/
module

public import proofs.«01_k».proof.Proof.Loss.Table
public import proofs.«01_k».proof.Proof.Loss.Block

@[expose] public section

set_option maxRecDepth 16384

noncomputable section

namespace Cert.Loss

open Idealize.ShloMosaic Idealize.ShloMosaic.TcCoe Idealize.SL.Sem
open Cert.KernelIdeal Cert.KernelIdeal.Gen

variable (m : (ℓ : Loc nD τ sig) → Buf (Elt Ideal) ℓ)

/-- Where each input window's block lies: the centres whole; row block `t` of the first eight groups and of the last
    eight. -/
theorem idx_facts : ∀ t : Fin cfg0.N, win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 1 ∧ win0_2.index t (1 : Fin 3) = t.val ∧ win0_2.index t (2 : Fin 3) = 0 :=
  (by decide +kernel : ∀ t : Fin grid0.N, _)

/-- The grid has 64 points. -/
theorem points : cfg0.N = 64 := N_0

/-- The centres' block is the centres' array. -/
theorem block0 (c : Dev nD) (t : Fin cfg0.N) (g : Fin 16) (d : Fin 512) :
    iblk m c 0 t (ix2 g d) = m ((c : Thread nD τ).loc main_arg1) (ix2 g d) := by
  obtain ⟨e0, e1, -⟩ := idx_facts t
  show V m c main_arg1 (((cfg0.win 0).blk t).view.emb (ix2 g d)) = _
  refine congrArg (V m c main_arg1) (funext fun a => Fin.ext ?_)
  match a with
  | ⟨0, _⟩ => show win0_0.index t (0 : Fin 2) * 16 + 1 * g.val = g.val; omega
  | ⟨1, _⟩ => show win0_0.index t (1 : Fin 2) * 512 + 1 * d.val = d.val; omega

/-- The first feature block holds the first eight groups' rows of row block `t`. -/
theorem block1 (c : Dev nD) (t : Fin cfg0.N) (g : Fin 8) (r : Fin 512) (d : Fin 512) :
    iblk m c 1 t (ix3 g r d)
      = m ((c : Thread nD τ).loc main_arg0) (ix3 (low g) (blockRow (Fin.cast points t) r) d) := by
  obtain ⟨-, -, e0, e1, e2, -⟩ := idx_facts t
  show V m c main_arg0 (((cfg0.win 1).blk t).view.emb (ix3 g r d)) = _
  refine congrArg (V m c main_arg0) (funext fun a => Fin.ext ?_)
  match a with
  | ⟨0, _⟩ => show win0_1.index t (0 : Fin 3) * 8 + 1 * g.val = g.val; omega
  | ⟨1, _⟩ => show win0_1.index t (1 : Fin 3) * 512 + 1 * r.val = 512 * t.val + r.val; omega
  | ⟨2, _⟩ => show win0_1.index t (2 : Fin 3) * 512 + 1 * d.val = d.val; omega

/-- The second feature block holds the last eight groups' rows of row block `t`. -/
theorem block2 (c : Dev nD) (t : Fin cfg0.N) (g : Fin 8) (r : Fin 512) (d : Fin 512) :
    iblk m c 2 t (ix3 g r d)
      = m ((c : Thread nD τ).loc main_arg0) (ix3 (high g) (blockRow (Fin.cast points t) r) d) := by
  obtain ⟨-, -, -, -, -, e0, e1, e2⟩ := idx_facts t
  show V m c main_arg0 (((cfg0.win 2).blk t).view.emb (ix3 g r d)) = _
  refine congrArg (V m c main_arg0) (funext fun a => Fin.ext ?_)
  match a with
  | ⟨0, _⟩ => show win0_2.index t (0 : Fin 3) * 8 + 1 * g.val = 8 + g.val; omega
  | ⟨1, _⟩ => show win0_2.index t (1 : Fin 3) * 512 + 1 * r.val = 512 * t.val + r.val; omega
  | ⟨2, _⟩ => show win0_2.index t (2 : Fin 3) * 512 + 1 * d.val = d.val; omega

/-- The table of a device's arguments. -/
abbrev losses (c : Dev nD) : Fin 16 → Fin 32768 → EReal :=
  table (m ((c : Thread nD τ).loc main_arg0)) (m ((c : Thread nD τ).loc main_arg1))

/-- What the body computes from the blocks of point `t` is the table's share of row block `t`. -/
theorem point_share (c : Dev nD) (t : Fin cfg0.N) :
    k0_pay1 (F := Ideal) (k0_pay4 (iblk m c 0 t) (iblk m c 1 t)) (iblk m c 2 t) (k0_pay6 (iblk m c 0 t))
        (k0_pay7 (iblk m c 0 t))
      = share (losses m c) (Fin.cast points t) := by
  rw [second_half, first_half]
  unfold blockDistance
  simp only [block0, block1, block2]
  rfl

/-- The share of the block numbered `n`, for `n` any natural number. -/
def shareAt (c : Dev nD) (n : ℕ) : EReal := if h : n < 64 then share (losses m c) ⟨n, h⟩ else 0

/-- After point `n` the output holds the shares of the row blocks up to `n`. -/
theorem outs_eq (c : Dev nD) : ∀ (n : ℕ) (hn : n < cfg0.N),
    outsAt0 m c n hn = fun _ => ∑ i ∈ Finset.range (n + 1), shareAt m c i
  | 0, hn => by
    rw [show outsAt0 m c 0 hn = _ from outsAt0_A m c ⟨0, hn⟩ rfl (by simp), out_first, point_share]
    simp [shareAt]
  | n + 1, hn => by
    have h64 : n + 1 < 64 := hn
    rw [show outsAt0 m c (n + 1) hn = _ from
      outsAt0_B m c ⟨n + 1, hn⟩ (by show ¬ (n + 1) % 64 = 0; omega) (Nat.le_add_left 1 n), out_next]
    unfold k0_pay2
    rw [point_share]
    refine funext fun j => ?_
    rw [Finset.sum_range_succ, shareAt, dif_pos h64]
    refine congrArg (· + _) ?_
    exact congrFun (outs_eq c n (Nat.lt_of_succ_lt hn)) j

/-- The sum of the 64 numbered shares is the sum over the row blocks. -/
theorem shares_sum (c : Dev nD) : ∑ i ∈ Finset.range 64, shareAt m c i = ∑ t, share (losses m c) t := by
  rw [Finset.sum_range]
  exact Finset.sum_congr rfl fun t _ => dif_pos t.isLt

/-- The output array after the last point holds the sum of all the shares. -/
theorem array_eq (c : Dev nD) : (dats m 0 c).arrAt 3 cfg0.N = fun _ => ∑ t, share (losses m c) t := by
  refine Pipeline.Dat.arrAt_eq_of_cover _ 3 _ (fun t ht => ?_) (fun i => ?_)
  · have h63 : t.val = 63 := by
      have := (flush0_3 t).1 ht
      have : t.val < 64 := t.isLt
      omega
    show (cfg0.win 3).cut (grid0.coords t) ((dats m 0 c).after 3 t) = _
    rw [after0_3, outs_eq, h63, shares_sum]
    rfl
  · refine ⟨⟨63, by decide⟩, (flush0_3 _).2 rfl, ?_⟩
    have h := ((cfg0.win 3).blk ⟨63, by decide⟩).view.emb_mem_set (ix3 0 0 0 : S1x1x1.Idx)
    exact (show i = _ from unit_index i _) ▸ h

/-- The lines after the kernel sum the one-entry array and divide by the number of distances. -/
theorem result_eq (c : Dev nD) : Pipeline.afterTail₀ cfgs (dats m) 0 (V0 m) [hostOps1] c main_v2
    = fun _ => loss (m ((c : Thread nD τ).loc main_arg0)) (m ((c : Thread nD τ).loc main_arg1)) := by
  show StableHlo.after hostOps1 (Pipeline.withArrays spec0 c (V0 m c) fun w => (dats m 0 c).arrAt w cfg0.N)
    (Proc.devRef .tc main_v2) = _
  after_results
  rw [show Pipeline.withArrays spec0 c (V0 m c) (fun w => (dats m 0 c).arrAt w cfg0.N) (Proc.devRef .tc main_v0)
      = _ from
    Pipeline.withArrays_arr_shared spec0 c (V0 m c) (fun w => (dats m 0 c).arrAt w cfg0.N)
      ((dats m 0 c).arrAt_sharedIn sharedIn0 (V0 m c) (A_eq m c) cfg0.N) 3]
  rw [array_eq]
  refine funext fun j => ?_
  pointwise
  simp [loss]

/-- The idealized kernel runs, its result is the loss of its arguments, and the arguments end unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v2)
          = (fun _ => loss (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
    ⟨((h c).2 main_v2 (by decide)).trans (result_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c)))⟩) (run_main m ρ)

end Cert.Loss

end
-- ==== Proof.Loss.Precondition.lean ====
/-
  The precondition read as mathematics: where the printed predicate is true, every feature is a real number.
-/
module

public import proofs.«01_k».proof.Proof.Loss.Table
public import proofs.«01_k».proof.Pre_finite_feats
public import Idealize.ShloMosaic.Lib.ReduceAll

@[expose] public section

noncomputable section

namespace Cert.Loss

open Idealize.ShloMosaic
open Cert.Pre_finite_feats

/-- The bit pattern of positive infinity denotes it. -/
theorem infinity_eq : Ideal.ofBits .f32 0x7F800000#32 = ⊤ := by
  simp [Ideal.ofBits, Ideal.ieee]

/-- An extended real of magnitude below infinity is a real number. -/
theorem isReal_of_magnitude {z : EReal} (h : max z (-z) < ⊤) : IsReal z := by
  refine isReal_of_ne (fun e => ?_) (fun e => ?_)
  · simp [e] at h
  · simp [e] at h

/-- A truth value whose bit is one is true. -/
theorem ofBool_one {b : Bool} (h : BitVec.ofBool b = 1#1) : b = true := by
  cases b with
  | false => exact absurd h (by decide)
  | true => rfl

/-- Where the predicate is true, every feature is a real number. -/
theorem features_real [Facts] {x : Features} {y : Centres} (h : fn (F := Ideal) x y = fun _ => 1#1) (g : Fin 16)
    (b : Fin 32768) (d : Fin 512) : IsReal (x (ix3 g b d)) := by
  have h0 := congrFun h (fun a => a.elim0)
  unfold fn at h0
  have h1 := Host.reduce_andi_all _ _ _ _ _ h0 (ix3 g b d)
  pointwise at h1
  rw [infinity_eq] at h1
  exact isReal_of_magnitude (of_decide_eq_true (ofBool_one h1))

end Cert.Loss

end
-- ==== Proof.Loss.Reference.lean ====
/-
  The reference's run, with its value. Its result is the mean over the feature rows of the rows' mean clipped distance,
  the distance written out as `(∑ x² + ∑ u²) − 2 ∑ u·x` (`refMean`); where the features are real numbers that is the loss
  (`refMean_eq`).
-/
module

public import proofs.«01_k».proof.Proof.Loss.Table
public import proofs.«01_k».proof.Proof.Gen.ReferenceIdeal.Run
public import Idealize.ShloMosaic.Lib.Pointwise

@[expose] public section

set_option maxRecDepth 16384

noncomputable section

namespace Cert.Loss

open Idealize.ShloMosaic Idealize.ShloMosaic.TcCoe Idealize.SL.Sem
open Cert.ReferenceIdeal Cert.ReferenceIdeal.Gen

/-- The mean over the feature rows of the rows' mean clipped distance, the distance in the reference's form. -/
def refMean (x : Features) (u : Centres) : EReal :=
  Ideal.div
    (∑ b, Ideal.div (∑ g, clip (expanded (fun d => x (ix3 g b d)) (normalized fun d => u (ix2 g d))))
      (Ideal.ofBits .f32 0x41800000#32)) (Ideal.ofBits .f32 0x47000000#32)

/-- On real features the reference's mean is the loss. -/
theorem refMean_eq {x : Features} (hx : ∀ g b d, IsReal (x (ix3 g b d))) (u : Centres) : refMean x u = loss x u := by
  rw [loss, mean_eq (table_real x u)]
  unfold refMean table
  simp only [crossed_eq_expanded (hx _ _) (normalized_real _)]

/-- The reference runs, on real features its result is the loss of its arguments, and the arguments end unchanged. -/
theorem reference_run (m : (ℓ : Loc nD τ sig) → Buf (Elt Ideal) ℓ) (ρ : Dev nD → PrngReg)
    (hx : ∀ (c : Dev nD) g b d, IsReal ((m ((c.tc : Thread nD τ).loc main_arg0) : Features) (ix3 g b d))) :
    θ_run defs (onTc (τ := τ) (main (F := Ideal))) ⟨m, fun _ => 0, ρ⟩ fun r => ∀ c : Dev nD,
      r.2.mem ((c.tc : Thread nD τ).loc main_v26)
          = (fun _ => loss (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => by
    refine ⟨(h c).1.trans (funext fun j => Eq.trans ?_ (refMean_eq (hx c) _)), (h c).2⟩
    pointwise
    rfl) (Value.run m ρ)

end Cert.Loss

end
-- ==== Proof.lean ====
/-
  The proof of `Cert.Claim` (Defs.lean). The mathematics is in Proof/Loss/: the table and the sums
  (Math, Table), the kernel's body (Block), the kernel's run (KernelRun), the precondition (Precondition) and the
  reference's run (Reference). Here the claims are assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_feats
public import proofs.«01_k».proof.Proof.Loss.KernelRun
public import proofs.«01_k».proof.Proof.Loss.Precondition
public import proofs.«01_k».proof.Proof.Loss.Reference
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and every semaphore ends at zero. -/
theorem reference_frame : Cert.quiescent_ReferenceIdeal (hReferenceIdeal := Cert.ReferenceIdeal.Gen.facts) := by
  intro m g _
  refine (θ_run _ _ _).mono (fun r h => ⟨fun c => (h c).2, ?_⟩) (Cert.ReferenceIdeal.Value.run m g)
  exact sem_eq_zero_of_no_sems (by decide) r.2

/-- The idealized kernel and the reference end with equal results: both are the loss of the shared arguments. -/
theorem results_equal :
    Cert.algebraic_KernelIdeal_ReferenceIdeal_pre_finite_feats (hKernelIdeal := Cert.KernelIdeal.Gen.facts)
      (hReferenceIdeal := Cert.ReferenceIdeal.Gen.facts) (hPre_finite_feats := Cert.Pre_finite_feats.Gen.facts) := by
  intro m g m' g' hpre hagree
  refine ⟨_, Cert.Loss.kernel_run m g, (θ_run _ _ _).mono (fun r h c => ⟨?_, (h c).2⟩)
    (Cert.Loss.reference_run m' g' fun c => ?_)⟩
  · rw [(h c).1, (hagree c).1, (hagree c).2]
    rfl
  · rw [(hagree c).1]
    exact Cert.Loss.features_real (hpre c)

/-- Every claim of this certificate. -/
theorem claim : Cert.Claim :=
  ⟨Cert.Kernel.Gen.facts, Cert.KernelIdeal.Gen.facts, Cert.ReferenceIdeal.Gen.facts, Cert.Pre_finite_feats.Gen.facts,
    fun m g _ => Cert.Kernel.Gen.frame m g, fun m g _ => Cert.KernelIdeal.Gen.frame m g,
    fun m g _ => Cert.KernelIdeal.Gen.frame m g, reference_frame, fun m g _ => reference_frame m g trivial, trivial,
    results_equal⟩

end Cert.Proof

end
